-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hReference : Cert.Reference.Facts) (hKernelIdeal : Cert.KernelIdeal.Facts) (hReferenceIdeal : Cert.ReferenceIdeal.Facts),
    quiescent_Kernel (hKernel := hKernel)
    ∧ quiescent_Reference (hReference := hReference)
    ∧ quiescent_KernelIdeal (hKernelIdeal := hKernelIdeal)
    ∧ quiescent_ReferenceIdeal (hReferenceIdeal := hReferenceIdeal)
    ∧ bitexact_Kernel_Reference (hKernel := hKernel) (hReference := hReference)
    ∧ preserves_Kernel_KernelIdeal
    ∧ algebraic_KernelIdeal_ReferenceIdeal (hKernelIdeal := hKernelIdeal) (hReferenceIdeal := hReferenceIdeal)
-- ==== Kernel.lean ====
abbrev S4096 : Shape := ⟨1, ![4096]⟩
abbrev S4096x50 : Shape := ⟨2, ![4096, 50]⟩
abbrev S100000x128 : Shape := ⟨2, ![100000, 128]⟩
abbrev S12 : Shape := ⟨1, ![12]⟩

abbrev nBuf : Space → Nat
  | .hbm => 5
  | .vmem => 1
  | .smem => 0
  | _ => 0

abbrev bufTy : (tb : Table) → Fin (tcTables nBuf tb) → BufTy
  | .hbm, ⟨0, _⟩ => ⟨S4096, .i32⟩
  | .hbm, ⟨1, _⟩ => ⟨S4096x50, .i32⟩
  | .hbm, ⟨2, _⟩ => ⟨S100000x128, .f32⟩
  | .hbm, ⟨3, _⟩ => ⟨S100000x128, .f32⟩
  | .hbm, ⟨4, _⟩ => ⟨S12, .f32⟩
  | .local _ .vmem, ⟨0, _⟩ => ⟨S12, .f32⟩
  | _, _ => ⟨S4096, .i32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .vmem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference.lean ====
abbrev S4096 : Shape := ⟨1, ![4096]⟩
abbrev S4096x50 : Shape := ⟨2, ![4096, 50]⟩
abbrev S100000x128 : Shape := ⟨2, ![100000, 128]⟩
abbrev S_ : Shape := ⟨0, ![]⟩
abbrev S12 : Shape := ⟨1, ![12]⟩

abbrev nBuf : Space → Nat
  | .hbm => 6
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x50, .i32⟩
  | .hbm, ⟨2, _⟩ => ⟨S100000x128, .f32⟩
  | .hbm, ⟨3, _⟩ => ⟨S100000x128, .f32⟩
  | .hbm, ⟨4, _⟩ => ⟨S_, .f32⟩
  | .hbm, ⟨5, _⟩ => ⟨S12, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩

abbrev nD : Nat := 1
abbrev τ : Topo := Topo.v7x

variable {F : FTy → Type} [FloatOps F]
-- ==== Proof.KernelValue.lean ====
/- The kernel's run, over any reading of floats: it terminates, its result array of twelve floats ends at the float
   zero at every index, whatever the arguments hold and whatever that array held before, the arguments are unchanged
   and every semaphore counter is back at zero. One grid point, one output window that is the whole array, no input
   window: the body's one store fills the staging buffer with the constant, and the write-back copies it out. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

noncomputable section

namespace Cert.Kernel.ZeroFill

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Twelve times the float whose word is zero. -/
abbrev zeros : Vec F S12 .f32 := fun _ => FloatOps.ofBits .f32 0x00000000#32

/-! ## The body -/

/-- The rectangle that the body stores through: all twelve entries of its buffer. -/
abbrev full : Rect S12 := Rect.unit (s := S12) ![0] S12.size inb_S12_S12_0

/-- One store of the zero vector through the whole buffer leaves the zero vector there. -/
theorem canon_full : View.canon [(⟨full, k0_pay1 (F := F)⟩ : View.Piece (Elt F) S12 .f32)] = zeros (F := F) := by
  have off : (![0] : Fin 1 → Nat) = fun _ => 0 := funext fun a => by fin_cases a; rfl
  exact View.canon_unit_zero off _ _

/-- Every entry of the buffer is stored to. -/
theorem full_covers (p : Vec F S12 .f32) (y : S12.Idx) :
    ∃ pc ∈ ([⟨full, p⟩] : List (View.Piece (Elt F) S12 .f32)), y ∈ pc.1.set :=
  View.cover_of_tiled [⟨full, p⟩] S12.size (by rfl) y

/-- The body, given its staging buffer at any contents, hands it on filled with zeros. -/
theorem body_fills (c : Dev nD) (E : Set ℕ) (o : Memref sig .tc .vmem S12 .f32) (ho : o.IsWhole) (K : PUnit → sProp 𝕄) :
    iprop((∃ d, owns (c : Thread nD τ) o fullShare d)
        ∗ (iprop(owns (c : Thread nD τ) o fullShare (zeros (F := F))) -∗ K ⟨⟩))
      ⊢ wp frame (wpE (defs₀ (F := F)) Variants.none c none) E (cc0__zero_fill o ho) K := by
  rw [cc0__zero_fill_eq_skeleton, ← canon_full]
  unfold cc0__zero_fill_skel owns
  iintro ⟨⟨%before, %stored, -, Hbuf⟩, Hk⟩
  sl_exec
  sl_step
  iapply Hk
  iexists _; isplitr
  swap; · iexact Hbuf
  ipureintro
  exact View.read_writes_eq_canon _ _ _ (full_covers _)

/-! ## The launch -/

/-- What the launch theorem is told of the pipeline: the arrays are entered as launched, each point leaves zeros in the
    output's buffer, nothing else is touched or owed. -/
def dats (_ : Fin 1) (c : Dev nD) : Dat τ (Elt F) Unit ℕ (UR sig nD τ) ℕ cfg0 c where
  A w := m ((c : Thread nD τ).loc (Pipeline.arrRef spec0 w))
  after w _ := match w with
    | ⟨0, _⟩ => zeros
  Φ _ := Pipeline.ΦA spec0 c
  q _ := fullShare
  owed _ := 0

/-- Each point leaves zeros in the output's buffer. -/
theorem after_eq (c : Dev nD) (t : Fin cfg0.N) : (dats m 0 c).after 0 t = zeros := by dsimp only [dats]

/-- The body at a point, from what the pipeline hands it to what the pipeline wants back. -/
theorem body_at (c : Dev nD) (t : Fin cfg0.N) :
    iprop((dats m 0 c).Φ t.castSucc ∗ (dats m 0 c).owesAt () t.castSucc
        ∗ (∃ d, owns (c : Thread nD τ) (st0_0 t) fullShare ((dats m 0 c).before 0 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (st0_0 t) fullShare ((dats m 0 c).after 0 t))) := by
  rw [show (dats m 0 c).Φ t.succ = (dats m 0 c).Φ t.castSucc from rfl,
    show (dats m 0 c).owesAt () t.succ = (dats m 0 c).owesAt () t.castSucc from rfl, after_eq]
  iintro ⟨HΦ, Howes, ⟨%d, Hbuf⟩⟩
  iapply (body_fills c Set.univ _ _ _)
  isplitl [Hbuf]; · iexists _; iexact Hbuf
  iintro Hbuf
  isplitl [HΦ]; · iexact HΦ
  isplitl [Howes]; · iexact Howes
  iexact Hbuf

/-- The same in the form of the library's body obligation. -/
theorem body_obligation (c : Dev nD) :
    BodyObligation (dats (F := F) m 0 c) (defs₀ (F := F)) Variants.none () Set.univ := fun t => by
  rw [bigSep_W0, bigSep_W0,
    show defs₀ (F := F) .tc cfg0.body (cfg0.bodyArgs t (cfg0.slots t)) = bodyAt0 t by unfold defs₀; rw [Defs.onTc_tc]]
  exact triple_restated (body_at m c t) rfl .rfl fun _ => .rfl

-- the launch theorem's implicit arguments are found by unfolding definitions in their types
set_option backward.isDefEq.respectTransparency.types false in
/-- The launch: every execution terminates, the pipeline's array ends at what its write-backs leave there, every other
    array as launched, every counter at zero. -/
theorem launch : θ_run defs (onTc (τ := τ) (main (F := F))) (s₀ m ρ) (fun r =>
    Pipeline.FramePost cfgs (dats m) 0 (fun c b => m ((c : Thread nD τ).loc b)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := fun c b => m ((c : Thread nD τ).loc b))
    (hmain := Pipeline.hmain_region cfgs 0 defs₀ Variants.none m main fun c => (main_chain c).trans rfl)
    (hA := fun _ _ => by dsimp only [dats]) (hΦ := fun _ _ => rfl)

/-! ## The result array -/

/-- What a point writes back is its block of the zero vector. -/
theorem flushed_eq (c : Dev nD) (t : Fin cfg0.N) :
    (dats m 0 c).flushed 0 t = (win0_0.blk t).view.read (Elt F) (zeros (F := F)) := by
  show (cfg0.win 0).cut (grid0.coords t) ((dats m 0 c).after 0 t) = _
  rw [after_eq]
  rfl

/-- The one block is the whole array: it holds every index. -/
theorem cover (i : S12.Idx) :
    ∃ t : Fin cfg0.N, (cfg0.win 0).flush t = true ∧ i ∈ ((cfg0.win 0).blk t).view.set := by
  refine ⟨t0_0, flush0_0 _, ?_⟩
  show i ∈ ((View.whole main_v0).slice (win0_0.rect t0_0)).set
  rw [View.set_slice_whole, Rect.mem_set_unit]
  have hi : (i 0 : Nat) < 12 := (i 0).isLt
  intro a
  fin_cases a
  show win0_0.index t0_0 0 * win0_0.size 0 ≤ (i 0 : Nat)
    ∧ (i 0 : Nat) < win0_0.index t0_0 0 * win0_0.size 0 + win0_0.xsize (grid0.coords t0_0) 0
  rw [show win0_0.index t0_0 0 * win0_0.size 0 = 0 by decide +kernel,
    show win0_0.xsize (grid0.coords t0_0) 0 = 12 by decide +kernel]
  omega

/-- So the result array ends at the zero vector. -/
theorem final (c : Dev nD) : (dats m 0 c).arrAt 0 cfg0.N = zeros (F := F) :=
  (dats m 0 c).arrAt_eq_of_cover 0 (zeros (F := F)) (fun t _ => flushed_eq m c t) cover

/-- The run: the result is the zero vector, the arguments are unchanged, every counter is at zero. -/
theorem run : θ_run defs (onTc (τ := τ) (main (F := F))) ⟨m, fun _ => 0, ρ⟩ fun r => (∀ c : Dev nD,
      r.2.mem ((c.tc : Thread nD τ).loc main_v0) = zeros (F := F)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun _ h => ⟨fun c => ⟨((h.1 c).1 0).trans (final m c),
      (h.1 c).2 main_arg0 (Pipeline.mem_restRefs_of main_arg0 (by decide) (by decide)),
      (h.1 c).2 main_arg1 (Pipeline.mem_restRefs_of main_arg1 (by decide) (by decide)),
      (h.1 c).2 main_arg2 (Pipeline.mem_restRefs_of main_arg2 (by decide) (by decide)),
      (h.1 c).2 main_arg3 (Pipeline.mem_restRefs_of main_arg3 (by decide) (by decide))⟩, h.2⟩)
    (launch m ρ)

end Cert.Kernel.ZeroFill

end
-- ==== Proof.KernelIdealValue.lean ====
/- The idealized kernel is the kernel's own text, so its run over the extended reals is the kernel's run at that reading
   of floats. -/
module

public import proofs.«01_k».proof.Proof.KernelValue
public import proofs.«01_k».proof.Proof.Gen.KernelIdeal
public import Idealize.ShloMosaic.PureOps.Ideal.Laws

@[expose] public section

noncomputable section

namespace Cert.KernelIdeal.ZeroFill

open Cert.KernelIdeal Cert.KernelIdeal.Gen Idealize.ShloMosaic Idealize.SL.Sem

/-- Twelve times the extended real whose word is zero. -/
abbrev zeros : Vec Ideal S12 .f32 := Cert.Kernel.ZeroFill.zeros

/-- The float of the zero word is the real number zero. -/
theorem zeros_apply (i : S12.Idx) : zeros i = (0 : EReal) := Ideal.ofBits_zero_f32

/-- The two programs' kernel functions are one text. -/
theorem body_eq (o : Memref sig .tc .vmem S12 .f32) (ho : o.IsWhole) :
    Cert.Kernel.cc0__zero_fill (F := Ideal) o ho = cc0__zero_fill o ho := rfl

/-- So are their kernel tables, -/
theorem kernels_eq : Cert.Kernel.defs₀ (F := Ideal) = defs₀ := by
  refine congrArg Defs.onTc (funext fun l => funext fun a => ?_)
  match l, a with
  | 0, (_, _) => exact body_eq _ _

/-- their tables of kernels and regions, -/
theorem defs_eq : Cert.Kernel.defs (F := Ideal) = defs := congrArg _ kernels_eq

/-- and their host programs. -/
theorem main_eq : Cert.Kernel.main (F := Ideal) = main := rfl

/-- The run: the result is the zero vector, the arguments are unchanged, every counter is at zero. -/
theorem run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v0) = zeros
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 := by
  have h := Cert.Kernel.ZeroFill.run (F := Ideal) m ρ
  rw [defs_eq, main_eq] at h
  exact h

end Cert.KernelIdeal.ZeroFill

end
-- ==== Proof.lean ====
module

public import proofs.«01_k».proof.Defs
public import proofs.«01_k».proof.Proof.KernelValue
public import proofs.«01_k».proof.Proof.KernelIdealValue
public import proofs.«01_k».proof.Proof.Gen.Reference.Run
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The reference runs at the bits, keeps its arguments, and has no semaphore that could end above zero. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The same of the reference over the extended reals. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's frame: its run without the result. -/
theorem frame_kernel : Cert.quiescent_Kernel := fun m ρ _ =>
  (θ_run Cert.Kernel.defs _ _).mono (fun _ h => ⟨fun c => (h.1 c).2, h.2⟩)
    (Cert.Kernel.ZeroFill.run (F := Bits) m ρ)

/-- The same of the kernel over the extended reals. -/
theorem frame_kernel_ideal : Cert.quiescent_KernelIdeal := fun m ρ _ =>
  (θ_run Cert.KernelIdeal.defs _ _).mono (fun _ h => ⟨fun c => (h.1 c).2, h.2⟩)
    (Cert.KernelIdeal.ZeroFill.run m ρ)

/-- Kernel and reference end with the same words: the zero word twelve times. -/
theorem bitexact : Cert.bitexact_Kernel_Reference := fun m ρ m' ρ' _ _ =>
  ⟨fun _ => Cert.Kernel.ZeroFill.zeros,
    (θ_run Cert.Kernel.defs _ _).mono (fun _ h => h.1) (Cert.Kernel.ZeroFill.run (F := Bits) m ρ),
    Cert.Reference.Value.run (F := Bits) m' ρ'⟩

/-- Kernel and reference end with the same extended reals: twelve zeros (`Cert.KernelIdeal.ZeroFill.zeros_apply`). -/
theorem algebraic : Cert.algebraic_KernelIdeal_ReferenceIdeal := fun m ρ m' ρ' _ _ =>
  ⟨fun _ => Cert.KernelIdeal.ZeroFill.zeros,
    (θ_run Cert.KernelIdeal.defs _ _).mono (fun _ h => h.1) (Cert.KernelIdeal.ZeroFill.run m ρ),
    Cert.ReferenceIdeal.Value.run (F := Ideal) m' ρ'⟩

/-- All the claims. -/
theorem claim : Cert.Claim :=
  ⟨Cert.Kernel.Gen.facts, Cert.Reference.Gen.facts, Cert.KernelIdeal.Gen.facts, Cert.ReferenceIdeal.Gen.facts,
    frame_kernel, frame_reference, frame_kernel_ideal, frame_reference_ideal, bitexact, trivial, algebraic⟩

end Cert.Proof

end
